-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ragged [hPre_ragged : Cert.Pre_ragged.Facts] (m : (ℓ : Loc Cert.KernelIdeal.nD Cert.KernelIdeal.τ Cert.KernelIdeal.sig) → Buf (Elt Ideal) ℓ) : Prop :=
  ∀ c : Dev Cert.KernelIdeal.nD,
    (Cert.Pre_ragged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ragged [hPre_ragged : Cert.Pre_ragged.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ragged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ragged [hKernelIdeal : Cert.KernelIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ragged m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ragged [hReferenceIdeal : Cert.ReferenceIdeal.Facts] [hPre_ragged : Cert.Pre_ragged.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ragged m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ragged [hKernelIdeal : Cert.KernelIdeal.Facts] [hReferenceIdeal : Cert.ReferenceIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ragged m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ragged : Cert.Pre_ragged.Facts),
    quiescent_Kernel (hKernel := hKernel)
    ∧ quiescent_KernelIdeal (hKernelIdeal := hKernelIdeal)
    ∧ quiescent_KernelIdeal_pre_ragged (hKernelIdeal := hKernelIdeal) (hPre_ragged := hPre_ragged)
    ∧ quiescent_ReferenceIdeal (hReferenceIdeal := hReferenceIdeal)
    ∧ quiescent_ReferenceIdeal_pre_ragged (hReferenceIdeal := hReferenceIdeal) (hPre_ragged := hPre_ragged)
    ∧ preserves_Kernel_KernelIdeal
    ∧ algebraic_KernelIdeal_ReferenceIdeal_pre_ragged (hKernelIdeal := hKernelIdeal) (hReferenceIdeal := hReferenceIdeal) (hPre_ragged := hPre_ragged)
-- ==== Pre_ragged.lean ====
abbrev S8x2048x1024 : Shape := ⟨3, ![8, 2048, 1024]⟩
abbrev S8 : Shape := ⟨1, ![8]⟩
abbrev S2048 : Shape := ⟨1, ![2048]⟩
abbrev S1x2048 : Shape := ⟨2, ![1, 2048]⟩
abbrev S8x1 : Shape := ⟨2, ![8, 1]⟩
abbrev S8x2048 : Shape := ⟨2, ![8, 2048]⟩
abbrev S8x2048x1 : Shape := ⟨3, ![8, 2048, 1]⟩
abbrev S_ : Shape := ⟨0, ![]⟩
abbrev S8x1x1024 : Shape := ⟨3, ![8, 1, 1024]⟩
abbrev S8x1024 : Shape := ⟨2, ![8, 1024]⟩

class Facts : Prop where
  bcast_S2048_S1x2048_1 : S2048.BroadcastsInDim S1x2048 (![1] : Fin 1 → Fin S1x2048.rank)
  bcast_S8_S8x1_0 : S8.BroadcastsInDim S8x1 (![0] : Fin 1 → Fin S8x1.rank)
  bcast_S1x2048_S8x2048_0_1 : S1x2048.BroadcastsInDim S8x2048 (![0, 1] : Fin 2 → Fin S8x2048.rank)
  bcast_S8x1_S8x2048_0_1 : S8x1.BroadcastsInDim S8x2048 (![0, 1] : Fin 2 → Fin S8x2048.rank)
  bcast_S8x2048_S8x2048x1_0_1 : S8x2048.BroadcastsInDim S8x2048x1 (![0, 1] : Fin 2 → Fin S8x2048x1.rank)
  bcast_S_S8 : S_.BroadcastsInDim S8 (![] : Fin 0 → Fin S8.rank)
  reducesTo_S8_S_d0 : S8.ReducesTo [0] S_
  h_S_ : 0 < S_.numel
  bcast_S_S8x2048x1024 : S_.BroadcastsInDim S8x2048x1024 (![] : Fin 0 → Fin S8x2048x1024.rank)
  bcast_S8x2048x1_S8x2048x1024_0_1_2 : S8x2048x1.BroadcastsInDim S8x2048x1024 (![0, 1, 2] : Fin 3 → Fin S8x2048x1024.rank)
  reducesTo_S8x2048x1024_S_d0_1_2 : S8x2048x1024.ReducesTo [0, 1, 2] S_
  slices_S8x2048x1024_S8x1x1024_0_0_0 : S8x2048x1024.Slices ![0, 0, 0] S8x1x1024
  bcast_S8x1x1024_S8x2048x1024_0_1_2 : S8x1x1024.BroadcastsInDim S8x2048x1024 (![0, 1, 2] : Fin 3 → Fin S8x2048x1024.rank)
  reducesTo_S8x2048x1024_S8x1024_d1 : S8x2048x1024.ReducesTo [1] S8x1024
  reducesTo_S8x1024_S_d0_1 : S8x1024.ReducesTo [0, 1] S_

variable [Facts]

def fn_part1 {F : FTy → Type} [FloatOps F] (main_arg0 : FVec F S8x2048x1024 .f32) (main_v6 : IVec S8x2048x1 1) (main_v12 : IVec S_ 1) (main_v18 : IVec S8x2048x1024 1) (main_c_2 : IVec S_ 1) : IVec S_ 1 :=
  let main_v19 : IVec S_ 1 := (fun x v => Host.reduce IntOp.andi x v reducesTo_S8x2048x1024_S_d0_1_2 h_S_) main_v18 main_c_2
  let main_v20 : FVec F S8x1x1024 .f32 := (extractStridedSlice S8x1x1024 ![0, 0, 0] · slices_S8x2048x1024_S8x1x1024_0_0_0) main_arg0
  let main_v21 : FVec F S8x2048x1024 .f32 := broadcastInDim S8x2048x1024 ![0, 1, 2] bcast_S8x1x1024_S8x2048x1024_0_1_2 main_v20
  let main_v22 : IVec S8x2048x1024 1 := cmpf .une main_arg0 main_v21
  let main_v23 : IVec S8x2048x1024 1 := broadcastInDim S8x2048x1024 ![0, 1, 2] bcast_S8x2048x1_S8x2048x1024_0_1_2 main_v6
  let main_v24 : IVec S8x2048x1024 1 := andi main_v22 main_v23
  let main_c_3 : IVec S_ 1 := constantI S_ 1 0#1
  let main_v25 : IVec S8x1024 1 := (fun x v => Host.reduce IntOp.ori x v reducesTo_S8x2048x1024_S8x1024_d1 h_S_) main_v24 main_c_3
  let main_c_4 : IVec S_ 1 := constantI S_ 1 1#1
  let main_v26 : IVec S_ 1 := (fun x v => Host.reduce IntOp.andi x v reducesTo_S8x1024_S_d0_1 h_S_) main_v25 main_c_4
  let main_v27 : IVec S_ 1 := andi main_v12 main_v19
  let main_v28 : IVec S_ 1 := andi main_v27 main_v26
  main_v28

def fn {F : FTy → Type} [FloatOps F] (main_arg0 : FVec F S8x2048x1024 .f32) (main_arg1 : IVec S8 32) : IVec S_ 1 :=
  let main_v0 : IVec S2048 32 := iotaInDim S2048 32 0
  let main_v1 : IVec S1x2048 32 := broadcastInDim S1x2048 ![1] bcast_S2048_S1x2048_1 main_v0
  let main_v2 : IVec S8x1 32 := broadcastInDim S8x1 ![0] bcast_S8_S8x1_0 main_arg1
  let main_v3 : IVec S8x2048 32 := broadcastInDim S8x2048 ![0, 1] bcast_S1x2048_S8x2048_0_1 main_v1
  let main_v4 : IVec S8x2048 32 := broadcastInDim S8x2048 ![0, 1] bcast_S8x1_S8x2048_0_1 main_v2
  let main_v5 : IVec S8x2048 1 := cmpi .slt main_v3 main_v4
  let main_v6 : IVec S8x2048x1 1 := broadcastInDim S8x2048x1 ![0, 1] bcast_S8x2048_S8x2048x1_0_1 main_v5
  let main_c : IVec S_ 32 := constantI S_ 32 2#32
  let main_v7 : IVec S8 32 := broadcastInDim S8 ![] bcast_S_S8 main_c
  let main_v8 : IVec S8 1 := cmpi .sge main_arg1 main_v7
  let main_c_0 : IVec S_ 32 := constantI S_ 32 2048#32
  let main_v9 : IVec S8 32 := broadcastInDim S8 ![] bcast_S_S8 main_c_0
  let main_v10 : IVec S8 1 := cmpi .sle main_arg1 main_v9
  let main_v11 : IVec S8 1 := andi main_v8 main_v10
  let main_c_1 : IVec S_ 1 := constantI S_ 1 1#1
  let main_v12 : IVec S_ 1 := (fun x v => Host.reduce IntOp.andi x v reducesTo_S8_S_d0 h_S_) main_v11 main_c_1
  let main_v13 : FVec F S8x2048x1024 .f32 := Host.absf main_arg0
  let main_cst : FVec F S_ .f32 := constant S_ .f32 0x7F800000#32
  let main_v14 : FVec F S8x2048x1024 .f32 := broadcastInDim S8x2048x1024 ![] bcast_S_S8x2048x1024 main_cst
  let main_v15 : IVec S8x2048x1024 1 := cmpf .olt main_v13 main_v14
  let main_v16 : IVec S8x2048x1 1 := noti main_v6
  let main_v17 : IVec S8x2048x1024 1 := broadcastInDim S8x2048x1024 ![0, 1, 2] bcast_S8x2048x1_S8x2048x1024_0_1_2 main_v16
  let main_v18 : IVec S8x2048x1024 1 := ori main_v15 main_v17
  let main_c_2 : IVec S_ 1 := constantI S_ 1 1#1
  fn_part1 (F := F) main_arg0 main_v6 main_v12 main_v18 main_c_2
-- ==== Kernel.lean ====
abbrev S8x2048x1024 : Shape := ⟨3, ![8, 2048, 1024]⟩
abbrev S8 : Shape := ⟨1, ![8]⟩
abbrev S1x2048x1024 : Shape := ⟨3, ![1, 2048, 1024]⟩
abbrev S1 : Shape := ⟨1, ![1]⟩
abbrev S2048x1024 : Shape := ⟨2, ![2048, 1024]⟩
abbrev S1x2048 : Shape := ⟨2, ![1, 2048]⟩
abbrev S1x1024 : Shape := ⟨2, ![1, 1024]⟩

abbrev nBuf : Space → Nat
  | .hbm => 3
  | .vmem => 4
  | .smem => 1
  | _ => 0

abbrev bufTy : (tb : Table) → Fin (tcTables nBuf tb) → BufTy
  | .hbm, ⟨0, _⟩ => ⟨S8x2048x1024, .f32⟩
  | .hbm, ⟨1, _⟩ => ⟨S8, .i32⟩
  | .hbm, ⟨2, _⟩ => ⟨S8x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x2048x1024, .f32⟩
  | .local _ .vmem, ⟨3, _⟩ => ⟨S1x2048x1024, .f32⟩
  | .local _ .smem, ⟨0, _⟩ => ⟨S8, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x2048x1024 : Shape := ⟨3, ![8, 2048, 1024]⟩
abbrev S8 : Shape := ⟨1, ![8]⟩
abbrev S2048 : Shape := ⟨1, ![2048]⟩
abbrev S1x2048 : Shape := ⟨2, ![1, 2048]⟩
abbrev S8x1 : Shape := ⟨2, ![8, 1]⟩
abbrev S8x2048 : Shape := ⟨2, ![8, 2048]⟩
abbrev S8x2048x1 : Shape := ⟨3, ![8, 2048, 1]⟩
abbrev S8x1x1 : Shape := ⟨3, ![8, 1, 1]⟩
abbrev S_ : Shape := ⟨0, ![]⟩
abbrev S8x1024 : Shape := ⟨2, ![8, 1024]⟩
abbrev S8x1x1024 : Shape := ⟨3, ![8, 1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8, .i32⟩
  | .hbm, ⟨2, _⟩ => ⟨S2048, .i32⟩
  | .hbm, ⟨3, _⟩ => ⟨S1x2048, .i32⟩
  | .hbm, ⟨4, _⟩ => ⟨S8x1, .i32⟩
  | .hbm, ⟨5, _⟩ => ⟨S8x2048, .i32⟩
  | .hbm, ⟨6, _⟩ => ⟨S8x2048, .i32⟩
  | .hbm, ⟨7, _⟩ => ⟨S8x2048, .i1⟩
  | .hbm, ⟨8, _⟩ => ⟨S8x2048, .f32⟩
  | .hbm, ⟨9, _⟩ => ⟨S8x2048x1, .f32⟩
  | .hbm, ⟨10, _⟩ => ⟨S8, .f32⟩
  | .hbm, ⟨11, _⟩ => ⟨S8x1x1, .f32⟩
  | .hbm, ⟨12, _⟩ => ⟨S8x2048x1024, .f32⟩
  | .hbm, ⟨13, _⟩ => ⟨S8x2048x1024, .f32⟩
  | .hbm, ⟨14, _⟩ => ⟨S_, .f32⟩
  | .hbm, ⟨15, _⟩ => ⟨S8x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x1024, .f32⟩
  | .hbm, ⟨26, _⟩ => ⟨S8x1x1024, .f32⟩
  | .hbm, ⟨27, _⟩ => ⟨S_, .f32⟩
  | .hbm, ⟨28, _⟩ => ⟨S8x1x1, .f32⟩
  | .hbm, ⟨29, _⟩ => ⟨S8x1x1, .f32⟩
  | .hbm, ⟨30, _⟩ => ⟨S8x1x1024, .f32⟩
  | .hbm, ⟨31, _⟩ => ⟨S8x1x1024, .f32⟩
  | .hbm, ⟨32, _⟩ => ⟨S8x1x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Proof.Column.lean ====
/-
  One column of one sequence, as mathematics on the extended reals (no program is mentioned here).

  The column `x : Fin T → EReal` has `n` valid rows, the first `n` of its `T`. The kernel takes the column's two moments
  `∑ wₖ·xₖ` and `∑ wₖ·xₖ²`, `wₖ` being 1 on the valid rows and 0 elsewhere, and from them the mean and the sample variance
  `(∑ wₖ·xₖ² - n·mean²) / (n - 1)`; it multiplies by the reciprocal root of that variance. The reference sums the squared
  deviations from the mean, and divides by the root of `(∑ (xₖ - mean)²·wₖ) / (n - 1)`. `standardized_eq` is that the two
  agree, when the valid rows are finite and not all equal and there are at least two of them.
-/
module

public import Idealize.ShloMosaic.PureOps.Ideal
public import Idealize.ShloMosaic.PureOps.Ideal.Laws

@[expose] public section

noncomputable section

open Idealize.ShloMosaic
open scoped BigOperators

namespace Cert.Column

variable {T : ℕ}

/-- The weight of row `k` of a column with `n` valid rows: 1 on a valid row, 0 on padding. -/
def weight (n : ℕ) (k : Fin T) : EReal := if k.val < n then 1 else 0

/-- The kernel's mean: the weighted sum of the rows over their number. -/
def mean (n : ℕ) (x : Fin T → EReal) : EReal := Ideal.div (∑ k, weight n k * x k) ((n : ℝ) : EReal)

/-- The kernel's sample variance, by the two moments. -/
def momentVar (n : ℕ) (x : Fin T → EReal) : EReal :=
  Ideal.div ((∑ k, weight n k * (x k * x k)) - ((n : ℝ) : EReal) * mean n x * mean n x) (((n : ℝ) : EReal) - 1)

/-- The reference's mean, the same sum with each product the other way round. -/
def refMean (n : ℕ) (x : Fin T → EReal) : EReal := Ideal.div (∑ k, x k * weight n k) ((n : ℝ) : EReal)

/-- The reference's sample variance: the squared deviations from the mean. -/
def deviationVar (n : ℕ) (x : Fin T → EReal) : EReal :=
  Ideal.div (∑ k, (x k - refMean n x) * (x k - refMean n x) * weight n k) (((n : ℝ) : EReal) - 1)

/-- There are at least two valid rows, the column has that many rows, the valid ones are finite, and two of them differ. -/
structure Varies (n : ℕ) (x : Fin T → EReal) : Prop where
  two_le : 2 ≤ n
  le : n ≤ T
  finite : ∀ k : Fin T, k.val < n → x k ≠ ⊤ ∧ x k ≠ ⊥
  differs : ∃ k₀ k₁ : Fin T, k₀.val < n ∧ k₁.val < n ∧ x k₁ ≠ x k₀

/-- The two spellings of the mean are one. -/
theorem refMean_eq (n : ℕ) (x : Fin T → EReal) : refMean n x = mean n x := by
  simp only [refMean, mean, mul_comm]

/-- A finite sum of reals, read among the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-! ### The same column over the reals -/

/-- Row `k` as a real. -/
def row (x : Fin T → EReal) (k : Fin T) : ℝ := (x k).toReal

/-- The sum of `f` over the valid rows. -/
def validSum (T n : ℕ) (f : Fin T → ℝ) : ℝ := ∑ k : Fin T, if k.val < n then f k else 0

/-- The mean as a real. -/
def realMean (n : ℕ) (x : Fin T → EReal) : ℝ := validSum T n (row x) / n

/-- The sum of the squared deviations, a real. -/
def squares (n : ℕ) (x : Fin T → EReal) : ℝ := validSum T n fun k => (row x k - realMean n x) ^ 2

/-- As many rows are valid as the length says, if the column is that long. -/
theorem validSum_const {n : ℕ} (h : n ≤ T) (c : ℝ) : validSum T n (fun _ => c) = n * c := by
  unfold validSum
  rw [Fin.sum_univ_eq_sum_range (fun k => if k < n then c else 0) T, ← Finset.sum_filter,
    show (Finset.range T).filter (· < n) = Finset.range n from by ext k; simp; omega]
  simp

theorem validSum_add (n : ℕ) (f g : Fin T → ℝ) :
    validSum T n (fun k => f k + g k) = validSum T n f + validSum T n g := by
  unfold validSum
  rw [← Finset.sum_add_distrib]
  exact Finset.sum_congr rfl fun k _ => by split_ifs <;> simp

theorem validSum_mul (n : ℕ) (c : ℝ) (f : Fin T → ℝ) : validSum T n (fun k => c * f k) = c * validSum T n f := by
  unfold validSum
  rw [Finset.mul_sum]
  exact Finset.sum_congr rfl fun k _ => by split_ifs <;> simp

/-- The moments' identity: the squared deviations sum to the second moment less `n` times the squared mean. -/
theorem squares_eq {n : ℕ} {x : Fin T → EReal} (h : Varies n x) :
    squares n x = validSum T n (fun k => row x k * row x k) - n * realMean n x * realMean n x := by
  have hn : (n : ℝ) ≠ 0 := by have := h.two_le; positivity
  have hs : validSum T n (row x) = n * realMean n x := by unfold realMean; field_simp
  have hexp : (fun k => (row x k - realMean n x) ^ 2)
      = fun k => row x k * row x k + (-2 * realMean n x * row x k + realMean n x ^ 2) := by
    funext k; ring
  unfold squares
  rw [hexp, validSum_add, validSum_add, validSum_mul n (-2 * realMean n x) (row x), validSum_const h.le, hs]
  ring

/-- The valid rows being not all equal, their squared deviations do not sum to 0. -/
theorem squares_pos {n : ℕ} {x : Fin T → EReal} (h : Varies n x) : 0 < squares n x := by
  have hnn : ∀ k ∈ (Finset.univ : Finset (Fin T)), 0 ≤ (if k.val < n then (row x k - realMean n x) ^ 2 else 0) :=
    fun k _ => by split_ifs <;> positivity
  unfold squares validSum
  refine lt_of_le_of_ne (Finset.sum_nonneg hnn) fun h0 => ?_
  have hz := (Finset.sum_eq_zero_iff_of_nonneg hnn).1 h0.symm
  obtain ⟨k₀, k₁, h₀, h₁, hne⟩ := h.differs
  have e : ∀ k : Fin T, k.val < n → row x k = realMean n x := fun k hk => by
    have := hz k (Finset.mem_univ k)
    rw [if_pos hk] at this
    exact sub_eq_zero.1 (pow_eq_zero_iff (two_ne_zero)|>.1 this)
  refine hne ?_
  rw [← EReal.coe_toReal (h.finite k₁ h₁).1 (h.finite k₁ h₁).2, ← EReal.coe_toReal (h.finite k₀ h₀).1 (h.finite k₀ h₀).2]
  exact congrArg _ ((e k₁ h₁).trans (e k₀ h₀).symm)

/-! ### From the extended reals to the reals -/

/-- A weighted sum over the column is the real sum over its valid rows, where `g` is `f` on the valid rows. -/
theorem sum_weight_mul {n : ℕ} (g : Fin T → EReal) (f : Fin T → ℝ) (h : ∀ k : Fin T, k.val < n → g k = (f k : EReal)) :
    ∑ k, weight n k * g k = ((validSum T n f : ℝ) : EReal) := by
  unfold validSum
  rw [coe_sum]
  refine Finset.sum_congr rfl fun k _ => ?_
  unfold weight
  split_ifs with hk
  · rw [one_mul, h k hk]
  · rw [zero_mul, EReal.coe_zero]

/-- A valid row is the real it holds. -/
theorem coe_row {n : ℕ} {x : Fin T → EReal} (h : Varies n x) (k : Fin T) (hk : k.val < n) : x k = (row x k : EReal) :=
  (EReal.coe_toReal (h.finite k hk).1 (h.finite k hk).2).symm

/-- A real over a nonzero real. -/
theorem div_coe_coe (a : ℝ) {b : ℝ} (h : b ≠ 0) : Ideal.div (a : EReal) (b : EReal) = ((a / b : ℝ) : EReal) := by
  rw [Ideal.div_coe h, ← EReal.coe_mul, mul_one_div]

theorem mean_eq {n : ℕ} {x : Fin T → EReal} (h : Varies n x) : mean n x = (realMean n x : EReal) := by
  have hn : (n : ℝ) ≠ 0 := by have := h.two_le; positivity
  unfold mean realMean
  rw [sum_weight_mul x (row x) (coe_row h), div_coe_coe _ hn]

theorem pred_ne {n : ℕ} {x : Fin T → EReal} (h : Varies n x) : (0 : ℝ) < (n : ℝ) - 1 := by
  have : (2 : ℝ) ≤ n := by exact_mod_cast h.two_le
  linarith

theorem coe_pred (n : ℕ) : ((n : ℝ) : EReal) - 1 = (((n : ℝ) - 1 : ℝ) : EReal) := by
  rw [EReal.coe_sub, EReal.coe_one]

/-- The kernel's variance is the squared deviations' sum over `n - 1`. -/
theorem momentVar_eq {n : ℕ} {x : Fin T → EReal} (h : Varies n x) :
    momentVar n x = ((squares n x / ((n : ℝ) - 1) : ℝ) : EReal) := by
  unfold momentVar
  rw [mean_eq h, sum_weight_mul (fun k => x k * x k) (fun k => row x k * row x k)
      (fun k hk => by rw [coe_row h k hk, EReal.coe_mul]),
    coe_pred, ← EReal.coe_mul, ← EReal.coe_mul, ← EReal.coe_sub, div_coe_coe _ (pred_ne h).ne', squares_eq h]

/-- So is the reference's. -/
theorem deviationVar_eq {n : ℕ} {x : Fin T → EReal} (h : Varies n x) :
    deviationVar n x = ((squares n x / ((n : ℝ) - 1) : ℝ) : EReal) := by
  unfold deviationVar squares
  rw [refMean_eq, mean_eq h, coe_pred]
  simp only [mul_comm _ (weight n _)]
  rw [sum_weight_mul (fun k => (x k - (realMean n x : EReal)) * (x k - (realMean n x : EReal)))
      (fun k => (row x k - realMean n x) ^ 2)
      (fun k hk => by
        rw [coe_row h k hk, ← EReal.coe_sub, ← EReal.coe_mul, pow_two]),
    div_coe_coe _ (pred_ne h).ne']

/-- THE EQUATION, for any extended real `z` (a row of the column, valid or padding): the kernel's
    `(z - mean) · rsqrt variance` is the reference's `(z - mean) / sqrt variance`. -/
theorem standardized_eq {n : ℕ} {x : Fin T → EReal} (h : Varies n x) (z : EReal) :
    (z - mean n x) * Ideal.rsqrt (momentVar n x) = Ideal.div (z - refMean n x) (Ideal.sqrt (deviationVar n x)) := by
  have hv : 0 < squares n x / ((n : ℝ) - 1) := div_pos (squares_pos h) (pred_ne h)
  rw [refMean_eq, momentVar_eq h, deviationVar_eq h, Ideal.rsqrt_coe, Ideal.sqrt_coe, if_neg hv.not_gt, if_neg hv.ne',
    if_neg hv.not_gt, Ideal.div_coe (Real.sqrt_pos.2 hv).ne', one_div]

end Cert.Column

end
-- ==== Proof.Words.lean ====
/-
  The words the two programs compute with, as numbers: a sequence's length is a signed 32-bit word between 0 and 2048, and
  either program converts it to a float, compares each row's position with it, and converts the answer to the row's weight.
-/
module

public import proofs.«01_k».proof.Proof.Column
public import Idealize.ShloMosaic.Lib.Affine
public import Idealize.ShloMosaic.Lib.IdealHost

@[expose] public section

noncomputable section

open Idealize.ShloMosaic

namespace Cert.Words

/-- A length word in the range the claim is about reads the same signed and unsigned. -/
theorem toInt_eq {w : BitVec 32} (h : w.toNat ≤ 2048) : w.toInt = (w.toNat : Int) :=
  BitVec.toInt_eq_toNat_of_lt (by omega)

/-- A length as a float is the length. -/
theorem sitofp_eq {w : BitVec 32} (h : w.toNat ≤ 2048) :
    (FloatOps.sitofp .f32 w : Ideal .f32) = ((w.toNat : ℝ) : EReal) := by
  show (((w.toInt : ℤ) : ℝ) : EReal) = _
  rw [toInt_eq h]
  norm_cast

/-- Row `k`'s position is below the length, as words, exactly when it is as numbers. -/
theorem below_iff {w : BitVec 32} (h : w.toNat ≤ 2048) (k : Fin 2048) :
    IntOp.cmpi .slt (BitVec.ofNat 32 k.val) w = 1#1 ↔ k.val < w.toNat := by
  have hk : (BitVec.ofNat 32 k.val).toNat = k.val := by rw [BitVec.toNat_ofNat]; have := k.isLt; omega
  rw [IntOp.cmpi_slt, toInt_eq h, toInt_eq (by rw [hk]; exact k.isLt.le), hk]
  exact Int.ofNat_lt

/-- The comparison's bit is 1 or 0 as the row is valid or not. -/
theorem below_eq {w : BitVec 32} (h : w.toNat ≤ 2048) (k : Fin 2048) :
    IntOp.cmpi .slt (BitVec.ofNat 32 k.val) w = if k.val < w.toNat then 1#1 else 0#1 := by
  split_ifs with hk
  · exact (below_iff h k).2 hk
  · have := mt (below_iff h k).1 hk
    revert this
    generalize IntOp.cmpi .slt (BitVec.ofNat 32 k.val) w = b
    revert b
    decide

/-- The reference's weight: the bit read as an unsigned number. -/
theorem uitofp_below {w : BitVec 32} (h : w.toNat ≤ 2048) (k : Fin 2048) :
    (FloatOps.uitofp .f32 (IntOp.cmpi .slt (BitVec.ofNat 32 k.val) w) : Ideal .f32) = Column.weight w.toNat k := by
  rw [below_eq h k]
  unfold Column.weight
  split_ifs
  · show (((1#1).toNat : ℝ) : EReal) = 1
    simp
  · show (((0#1).toNat : ℝ) : EReal) = 0
    simp

/-- The kernel's weight: the bit widened to 32 bits and read as a signed number. -/
theorem sitofp_below {w : BitVec 32} (h : w.toNat ≤ 2048) (k : Fin 2048) :
    (FloatOps.sitofp .f32 ((IntOp.cmpi .slt (BitVec.ofNat 32 k.val) w).setWidth 32) : Ideal .f32) = Column.weight w.toNat k := by
  rw [below_eq h k]
  unfold Column.weight
  split_ifs
  · show ((((1#1).setWidth 32).toInt : ℝ) : EReal) = 1
    norm_num
  · show ((((0#1).setWidth 32).toInt : ℝ) : EReal) = 0
    norm_num

/-- The pattern both programs write 0.0 with. -/
theorem zero_eq : (FloatOps.ofBits .f32 0x00000000#32 : Ideal .f32) = 0 := Ideal.ofBits_zero_f32

/-- The pattern both programs write 1.0 with. -/
theorem one_eq : (FloatOps.ofBits .f32 0x3F800000#32 : Ideal .f32) = 1 := Ideal.ofBits_one_f32

end Cert.Words

end
-- ==== Proof.RefValue.lean ====
/-
  What the reference computes, element by element: the deviation from the column's mean over the root of the column's
  sample variance (`Column.refMean`, `Column.deviationVar`).
-/
module

public import proofs.«01_k».proof.Proof.Words
public import proofs.«01_k».proof.Proof.Gen.ReferenceIdeal.Read
public import Idealize.ShloMosaic.Lib.ValueIdxCore

@[expose] public section

noncomputable section

open Idealize.ShloMosaic Idealize.ShloMosaic.ValueIdx
open Cert.ReferenceIdeal Cert.ReferenceIdeal.Read

namespace Cert.RefValue

variable (x : (⟨S8x2048x1024, .f32⟩ : BufTy).Contents (Elt Ideal)) (len : (⟨S8, .i32⟩ : BufTy).Contents (Elt Ideal))

/-- The length of sequence `b`. -/
abbrev count (b : Fin 8) : ℕ := (len (ix1 b)).toNat

/-- Feature `d` of sequence `b`, along the time axis. -/
abbrev column (b : Fin 8) (d : Fin 1024) : Fin 2048 → EReal := fun k => x (ix3 b k d)

/-- The mask, broadcast along the features, is the row's weight. -/
theorem mask_eq (b : Fin 8) (h : count len b ≤ 2048) (k : Fin 2048) (u : Fin 1) :
    val_main_v7 (F := Ideal) len (ix3 b k u) = Column.weight (count len b) k := by
  rw [val_main_v7_apply, val_main_v6_apply, val_main_v5_apply, val_main_v3_apply, val_main_v1_apply, val_main_v0_apply,
    val_main_v4_apply, val_main_v2_apply,
    show idx_main_v2 (idx_main_v4 (idx_main_v7 (ix3 b k u))) = ix1 b from funext fun a => match a with | ⟨0, _⟩ => rfl]
  exact Words.uitofp_below h k

/-- The length as a float. -/
theorem length_eq (b : Fin 8) (h : count len b ≤ 2048) (u v : Fin 1) :
    val_main_v9 (F := Ideal) len (ix3 b u v) = ((count len b : ℝ) : EReal) := by
  rw [val_main_v9_apply, val_main_v8_apply,
    show idx_main_v9 (ix3 b u v) = ix1 b from funext fun a => match a with | ⟨0, _⟩ => rfl]
  exact Words.sitofp_eq h

/-- The reference's mean of a column. -/
theorem mean_eq (b : Fin 8) (h : count len b ≤ 2048) (u : Fin 1) (d : Fin 1024) :
    val_main_v15 (F := Ideal) x len (ix3 b u d) = Column.refMean (count len b) (column x b d) := by
  rw [val_main_v15_apply, val_main_v13_apply, val_main_v12_apply, val_main_v14_apply, val_main_cst_apply, Words.zero_eq,
    zero_add,
    show idx_main_v14 (ix3 b u d) = ix3 b 0 0 from funext fun a => match a with | ⟨0, _⟩ => rfl | ⟨1, _⟩ => rfl | ⟨2, _⟩ => rfl,
    length_eq len b h]
  refine congrArg (Ideal.div · _) (Finset.sum_congr rfl fun k _ => ?_)
  rw [val_main_v11_apply, val_main_v10_apply,
    show idx_main_v12 (idx_main_v13 (ix3 b u d)) k = ix3 b k d from
      funext fun a => match a with | ⟨0, _⟩ => rfl | ⟨1, _⟩ => rfl | ⟨2, _⟩ => rfl,
    show idx_main_v10 (ix3 b k d) = ix3 b k 0 from funext fun a => match a with | ⟨0, _⟩ => rfl | ⟨1, _⟩ => rfl | ⟨2, _⟩ => rfl,
    mask_eq len b h]
  rfl

/-- The reference's variance of a column. -/
theorem var_eq (b : Fin 8) (h : count len b ≤ 2048) (u : Fin 1) (d : Fin 1024) :
    val_main_v26 (F := Ideal) x len (ix3 b u d) = Column.deviationVar (count len b) (column x b d) := by
  rw [val_main_v26_apply, val_main_v22_apply, val_main_v21_apply, val_main_v25_apply, val_main_v24_apply, val_main_v23_apply,
    val_main_cst_0_apply, val_main_cst_1_apply, Words.zero_eq, Words.one_eq, zero_add,
    show idx_main_v25 (ix3 b u d) = ix3 b 0 0 from funext fun a => match a with | ⟨0, _⟩ => rfl | ⟨1, _⟩ => rfl | ⟨2, _⟩ => rfl,
    length_eq len b h]
  refine congrArg (Ideal.div · _) (Finset.sum_congr rfl fun k _ => ?_)
  rw [val_main_v20_apply, val_main_v18_apply, val_main_v17_apply, val_main_v19_apply, val_main_v16_apply,
    show idx_main_v21 (idx_main_v22 (ix3 b u d)) k = ix3 b k d from
      funext fun a => match a with | ⟨0, _⟩ => rfl | ⟨1, _⟩ => rfl | ⟨2, _⟩ => rfl,
    show idx_main_v19 (ix3 b k d) = ix3 b k 0 from funext fun a => match a with | ⟨0, _⟩ => rfl | ⟨1, _⟩ => rfl | ⟨2, _⟩ => rfl,
    show idx_main_v16 (ix3 b k d) = ix3 b 0 d from funext fun a => match a with | ⟨0, _⟩ => rfl | ⟨1, _⟩ => rfl | ⟨2, _⟩ => rfl,
    mask_eq len b h, mean_eq x len b h]
  rfl

/-- THE REFERENCE'S RESULT at row `t` of a column. -/
theorem result_eq (b : Fin 8) (h : count len b ≤ 2048) (t : Fin 2048) (d : Fin 1024) :
    val_main_v31 (F := Ideal) x len (ix3 b t d)
      = Ideal.div (x (ix3 b t d) - Column.refMean (count len b) (column x b d))
          (Ideal.sqrt (Column.deviationVar (count len b) (column x b d))) := by
  rw [val_main_v31_apply, val_main_v29_apply, val_main_v28_apply, val_main_v30_apply, val_main_v27_apply,
    show idx_main_v28 (ix3 b t d) = ix3 b 0 d from funext fun a => match a with | ⟨0, _⟩ => rfl | ⟨1, _⟩ => rfl | ⟨2, _⟩ => rfl,
    show idx_main_v30 (ix3 b t d) = ix3 b 0 d from funext fun a => match a with | ⟨0, _⟩ => rfl | ⟨1, _⟩ => rfl | ⟨2, _⟩ => rfl,
    mean_eq x len b h, var_eq x len b h]
  rfl

end Cert.RefValue

end
-- ==== Proof.Precondition.lean ====
/-
  What the precondition `ragged` says, in the vocabulary of Column.lean: every length is between 2 and 2048, every valid
  row is finite, and in every column some valid row differs from the first.
-/
module

public import proofs.«01_k».proof.Proof.Words
public import proofs.«01_k».proof.Proof.Gen.Pre_ragged
public import Idealize.ShloMosaic.Lib.ReduceAll
public import Idealize.ShloMosaic.Lib.Pipeline.Value
public import Idealize.ShloMosaic.Lib.ValueIdxCore

@[expose] public section

noncomputable section

open Idealize.ShloMosaic Idealize.ShloMosaic.ValueIdx

namespace Cert.Precondition

/-! ### An "or" over an axis that is 1 -/

/-- A left fold by `or` over bits that came out 1 started at 1 or met a 1. -/
theorem foldl_ori_one {ι : Type} (f : ι → BitVec 1) :
    ∀ (l : List ι) (init : BitVec 1), l.foldl (fun r n => IntOp.ori r (f n)) init = 1#1 → init = 1#1 ∨ ∃ n ∈ l, f n = 1#1
  | [], _, h => .inl h
  | a :: l, init, h => by
    rcases foldl_ori_one f l _ h with h | ⟨n, hn, e⟩
    · rcases IntOp.ori_eq_one.1 h with h | h
      · exact .inl h
      · exact .inr ⟨a, List.mem_cons_self .., h⟩
    · exact .inr ⟨n, List.mem_cons_of_mem _ hn, e⟩

/-- A reduction by `or` from 0 that is 1 at `j` met a 1 at an index that reduces into `j`. -/
theorem reduce_ori_one {s t u : Shape} {axes : List (Fin s.rank)} (x : s.Idx → BitVec 1) (init : u.Idx → BitVec 1)
    (h : s.ReducesTo axes t) (hu : 0 < u.numel) (h0 : init (Shape.Idx.first hu) = 0#1) (j : t.Idx)
    (e : Host.reduce IntOp.ori x init h hu j = 1#1) : ∃ i : s.Idx, h.drop i = j ∧ x i = 1#1 := by
  rw [Host.reduce_eq_foldl] at e
  rcases foldl_ori_one x _ _ e with e | ⟨n, hn, e⟩
  · rw [h0] at e; exact absurd e (by decide)
  · rw [List.mem_filter] at hn
    exact ⟨n, by simpa using hn.2, e⟩

/-! ### The predicate's own operations -/

open Cert.Pre_ragged

variable (x : FVec Ideal S8x2048x1024 .f32) (len : IVec S8 32)

/-- `ragged` holds of the two arguments. -/
abbrev Holds : Prop := Cert.Pre_ragged.fn (F := Ideal) x len = fun _ => 1#1

/-- The predicate's bit for "row `k` of sequence `b` is valid". -/
abbrev validBit : IVec S8x2048x1 1 :=
  broadcastInDim S8x2048x1 ![0, 1] Facts.bcast_S8x2048_S8x2048x1_0_1
    (cmpi .slt (broadcastInDim S8x2048 ![0, 1] Facts.bcast_S1x2048_S8x2048_0_1
        (broadcastInDim S1x2048 ![1] Facts.bcast_S2048_S1x2048_1 (iotaInDim S2048 32 0)))
      (broadcastInDim S8x2048 ![0, 1] Facts.bcast_S8x1_S8x2048_0_1 (broadcastInDim S8x1 ![0] Facts.bcast_S8_S8x1_0 len)))

/-- It is the comparison of `k` with the length of sequence `b`. -/
theorem validBit_eq (b : Fin 8) (k : Fin 2048) (u : Fin 1) :
    validBit len (ix3 b k u) = IntOp.cmpi .slt (BitVec.ofNat 32 k.val) (len (ix1 b)) := by
  unfold validBit
  rw [broadcastInDim_apply _ Facts.bcast_S8x2048_S8x2048x1_0_1 _ (ix3 b k u) (ix2 b k)
    (fun a => match a with | ⟨0, _⟩ => rfl | ⟨1, _⟩ => rfl)]
  refine congrArg₂ (IntOp.cmpi .slt) ?_ ?_
  · rw [broadcastInDim_apply _ Facts.bcast_S1x2048_S8x2048_0_1 _ (ix2 b k) (ix2 0 k)
        (fun a => match a with | ⟨0, _⟩ => rfl | ⟨1, _⟩ => rfl),
      broadcastInDim_apply _ Facts.bcast_S2048_S1x2048_1 _ (ix2 0 k) (ix1 k) (fun a => match a with | ⟨0, _⟩ => rfl)]
    rfl
  · rw [broadcastInDim_apply _ Facts.bcast_S8x1_S8x2048_0_1 _ (ix2 b k) (ix2 b 0)
        (fun a => match a with | ⟨0, _⟩ => rfl | ⟨1, _⟩ => rfl),
      broadcastInDim_apply _ Facts.bcast_S8_S8x1_0 _ (ix2 b 0) (ix1 b) (fun a => match a with | ⟨0, _⟩ => rfl)]

/-- A bit of the mask broadcast along the features. -/
theorem spread (y : IVec S8x2048x1 1) (b : Fin 8) (k : Fin 2048) (d : Fin 1024) :
    broadcastInDim S8x2048x1024 ![0, 1, 2] Facts.bcast_S8x2048x1_S8x2048x1024_0_1_2 y (ix3 b k d) = y (ix3 b k 0) :=
  broadcastInDim_apply _ Facts.bcast_S8x2048x1_S8x2048x1024_0_1_2 y (ix3 b k d) (ix3 b k 0)
    (fun a => match a with | ⟨0, _⟩ => rfl | ⟨1, _⟩ => rfl | ⟨2, _⟩ => rfl)

/-- Row 0 of the array, broadcast along time. -/
theorem first_row (b : Fin 8) (k : Fin 2048) (d : Fin 1024) :
    broadcastInDim S8x2048x1024 ![0, 1, 2] Facts.bcast_S8x1x1024_S8x2048x1024_0_1_2
      (extractStridedSlice S8x1x1024 ![0, 0, 0] x Facts.slices_S8x2048x1024_S8x1x1024_0_0_0) (ix3 b k d) = x (ix3 b 0 d) := by
  rw [broadcastInDim_apply _ Facts.bcast_S8x1x1024_S8x2048x1024_0_1_2 _ (ix3 b k d) (ix3 b 0 d)
    (fun a => match a with | ⟨0, _⟩ => rfl | ⟨1, _⟩ => rfl | ⟨2, _⟩ => rfl)]
  exact extractStridedSlice_apply _ x Facts.slices_S8x2048x1024_S8x1x1024_0_0_0 (ix3 b 0 d) (ix3 b 0 d)
    (fun a => match a with | ⟨0, _⟩ => (Nat.zero_add _).symm | ⟨1, _⟩ => (Nat.zero_add _).symm | ⟨2, _⟩ => (Nat.zero_add _).symm)

instance : Subsingleton S_.Idx := ⟨fun i j => funext fun a => a.elim0⟩

/-- The pattern of the predicate's infinity. -/
theorem top_eq : Ideal.ofBits .f32 0x7F800000#32 = ⊤ := by simp [Ideal.ofBits, Ideal.ieee]

/-- A value whose size is below infinity is neither infinity. -/
theorem finite_of_abs {a : EReal} (h : Ideal.cmp .olt (max a (-a)) ⊤ = 1#1) : a ≠ ⊤ ∧ a ≠ ⊥ := by
  have hlt : max a (-a) < ⊤ := by
    by_contra hc
    simp [Ideal.cmp, hc] at h
  rw [max_lt_iff] at hlt
  refine ⟨hlt.1.ne, fun e => ?_⟩
  rw [e] at hlt
  exact absurd hlt.2 (by simp)

/-- Two values the predicate finds unequal are unequal. -/
theorem ne_of_cmp {a c : EReal} (h : Ideal.cmp .une a c = 1#1) : a ≠ c := by
  intro e
  simp [Ideal.cmp, e] at h

/-- WHAT THE PRECONDITION SAYS of a column: its length is in range, its valid rows are finite, and two of them differ. -/
theorem varies (h : Holds x len) (b : Fin 8) (d : Fin 1024) :
    Column.Varies (len (ix1 b)).toNat (fun k => x (ix3 b k d)) := by
  have h0 := congrFun h ix0
  dsimp only [Cert.Pre_ragged.fn, fn_part1] at h0
  obtain ⟨h12, hdiff⟩ := IntOp.andi_eq_one.1 h0
  obtain ⟨hlen, hfin⟩ := IntOp.andi_eq_one.1 h12
  obtain ⟨hge, hle⟩ := IntOp.andi_eq_one.1 (Host.reduce_andi_all _ _ _ _ _ hlen (ix1 b))
  have two_le : (2 : Int) ≤ (len (ix1 b)).toInt := IntOp.cmpi_sge.1 hge
  have le : (len (ix1 b)).toInt ≤ 2048 := IntOp.cmpi_sle.1 hle
  have hn : (len (ix1 b)).toInt = ((len (ix1 b)).toNat : Int) := by
    have := (len (ix1 b)).isLt
    rw [BitVec.toInt_eq_toNat_cond] at two_le ⊢
    split_ifs at two_le ⊢ <;> omega
  have le' : (len (ix1 b)).toNat ≤ 2048 := by omega
  refine ⟨by omega, le', fun k hk => ?_, ?_⟩
  · rcases IntOp.ori_eq_one.1 (Host.reduce_andi_all _ _ _ _ _ hfin (ix3 b k d)) with hc | hc
    · refine finite_of_abs ?_
      rw [← top_eq]
      exact hc
    · rw [spread] at hc
      exact absurd ((validBit_eq len b k 0).trans ((Words.below_iff le' k).2 hk)) (IntOp.not_eq_one.1 hc)
  · obtain ⟨i, hi, e⟩ := reduce_ori_one _ _ _ _ rfl _ (Host.reduce_andi_all _ _ _ _ _ hdiff (ix2 b d))
    obtain ⟨hne, hv⟩ := IntOp.andi_eq_one.1 e
    have hb : i 0 = b := congrFun hi 0
    have hd : i 2 = d := congrFun hi 1
    obtain ⟨k, rfl⟩ : ∃ k : Fin 2048, i = ix3 b k d := ⟨i 1, by rw [← hb, ← hd]; exact eq_ix3 i⟩
    rw [spread] at hv
    have hk : k.val < (len (ix1 b)).toNat := (Words.below_iff le' k).1 ((validBit_eq len b k 0).symm.trans hv)
    refine ⟨0, k, ?_, hk, ?_⟩
    · show 0 < _
      omega
    · have hne' : Ideal.cmp .une (x (ix3 b k d)) (broadcastInDim S8x2048x1024 ![0, 1, 2] Facts.bcast_S8x1x1024_S8x2048x1024_0_1_2
        (extractStridedSlice S8x1x1024 ![0, 0, 0] x Facts.slices_S8x2048x1024_S8x1x1024_0_0_0) (ix3 b k d)) = 1#1 := hne
      rw [first_row] at hne'
      exact ne_of_cmp hne'

end Cert.Precondition

end
-- ==== Proof.KernelPayload.lean ====
/-
  What the kernel's body makes of one block, element by element: the deviation from the column's mean times the reciprocal
  root of the column's variance by moments (`Column.mean`, `Column.momentVar`).
-/
module

public import proofs.«01_k».proof.Proof.Words
public import proofs.«01_k».proof.Proof.Gen.KernelIdeal.Skeleton
public import Idealize.ShloMosaic.Lib.Pipeline.ValueKit

@[expose] public section

set_option maxRecDepth 16384

noncomputable section

open Idealize.ShloMosaic
open Cert.KernelIdeal Cert.KernelIdeal.Gen

namespace Cert.KernelPayload

/-- THE BODY'S BLOCK at row `t` of feature `d`, from the length word `w` and the block `v` it reads. -/
theorem payload_eq (w : BitVec 32) (hw : w.toNat ≤ 2048) (v : Vec Ideal S1x2048x1024 .f32) (t : Fin 2048) (d : Fin 1024) :
    k0_pay1 (F := Ideal) w v (ix3 0 t d)
      = (v (ix3 0 t d) - Column.mean w.toNat (fun k : Fin 2048 => v (ix3 0 k d)))
        * Ideal.rsqrt (Column.momentVar w.toNat (fun k : Fin 2048 => v (ix3 0 k d))) := by
  unfold k0_pay1
  pointwise
  have hs : (((w.toInt : ℤ) : ℝ) : EReal) = ((w.toNat : ℝ) : EReal) := Words.sitofp_eq hw
  simp only [Words.sitofp_below hw, hs]
  rfl

end Cert.KernelPayload

end
-- ==== Proof.KernelValue.lean ====
/-
  The kernel's result array after the run: grid point `b` writes sequence `b`, the eight blocks tile the array, and so every
  element is what KernelPayload.lean says of its column.
-/
module

public import proofs.«01_k».proof.Proof.KernelPayload
public import proofs.«01_k».proof.Proof.Gen.KernelIdeal.Value

@[expose] public section

set_option maxRecDepth 16384

noncomputable section

open Idealize.ShloMosaic Idealize.ShloMosaic.TcCoe Idealize.SL.Sem
open Cert.KernelIdeal Cert.KernelIdeal.Gen

namespace Cert.KernelValue

variable (m : (ℓ : Loc nD τ sig) → Buf (Elt Ideal) ℓ)

/-- The sequences, as launched. -/
abbrev rows (c : Dev nD) : S8x2048x1024.Idx → EReal := m ((c : Thread nD τ).loc main_arg0)

/-- Sequence `b`'s length word, as launched. -/
abbrev lengthWord (c : Dev nD) (b : Fin 8) : BitVec 32 := m ((c : Thread nD τ).loc main_arg1) (ix1 b)

/-- What the array holds at the end. -/
def standardized (c : Dev nD) : S8x2048x1024.Idx → EReal := fun i =>
  (rows m c (ix3 (i 0) (i 1) (i 2))
      - Column.mean (lengthWord m c (i 0)).toNat (fun k : Fin 2048 => rows m c (ix3 (i 0) k (i 2))))
    * Ideal.rsqrt (Column.momentVar (lengthWord m c (i 0)).toNat (fun k : Fin 2048 => rows m c (ix3 (i 0) k (i 2))))

/-- Point `t` of the grid is sequence `t`: the block of rows it reads, the block it writes, and the word of the lengths. -/
theorem idx_facts : ∀ t : Fin cfg0.N, win0_1.index t = ![t.val, 0, 0] ∧ win0_2.index t = ![t.val, 0, 0]
    ∧ win0_0.index t = ![0] ∧ k0_off1 (grid0.coords t) = ![t.val] :=
  (by decide +kernel : ∀ t : Fin grid0.N, _)

/-- The sequence a grid point is. -/
abbrev seq (t : Fin cfg0.N) : Fin 8 := ⟨t.val, t.isLt⟩

/-- The block of rows point `t` reads is sequence `t`. -/
theorem block_eq (c : Dev nD) (t : Fin cfg0.N) (k : Fin 2048) (d : Fin 1024) :
    iblk m c 1 t (ix3 0 k d) = rows m c (ix3 (seq t) k d) := by
  obtain ⟨e, -, -, -⟩ := idx_facts t
  blk_ext [iblk, V, e]

/-- The word it reads is sequence `t`'s length. -/
theorem word_eq (c : Dev nD) (t : Fin cfg0.N) :
    View.ld (iblk m c 0 t) (Rect.unit (s := S8) (k0_off1 (grid0.coords t)) S1.size (k0_off1_inb (grid0.coords t)))
      (Shape.Idx.first (numel1_S1 ▸ Nat.one_pos)) = lengthWord m c (seq t) := by
  obtain ⟨-, -, e, e'⟩ := idx_facts t
  refine (View.ld_unit_apply_of _ _ _ _ _ (ix1 (seq t)) (fun a => ?_)).trans ?_
  · match a with
    | ⟨0, _⟩ =>
      have h1 : (Shape.Idx.first (s := S1) (numel1_S1 ▸ Nat.one_pos) 0).val < 1 := Fin.isLt _
      have h2 : k0_off1 (grid0.coords t) 0 = t.val := congrFun e' 0
      show t.val = k0_off1 (grid0.coords t) 0 + (Shape.Idx.first (s := S1) (numel1_S1 ▸ Nat.one_pos) 0).val
      omega
  · blk_ext [iblk, V, e]

/-- The place in the array of an element of the block point `t` writes. -/
theorem emb_eq (t : Fin cfg0.N) (k : Fin 2048) (d : Fin 1024) :
    ((View.whole main_v0).slice (win0_2.rect t)).emb (ix3 0 k d) = ix3 (seq t) k d := by
  obtain ⟨-, e, -, -⟩ := idx_facts t
  blk_ext [e]

/-- THE RESULT ARRAY after the run, where every length is at most 2048. -/
theorem array_eq (c : Dev nD) (h : ∀ b, (lengthWord m c b).toNat ≤ 2048) :
    (dats m 0 c).arrAt 2 cfg0.N = standardized m c := by
  refine (dats m 0 c).arrAt_eq_of_covers 2 _ (by decide +kernel) fun t hf y => ?_
  blk_simp
  rw [after0_2]
  unfold outsAt0
  frame_out
  obtain ⟨k, d, rfl⟩ : ∃ (k : Fin 2048) (d : Fin 1024), y = ix3 0 k d :=
    ⟨y 1, y 2, (eq_ix3 y).trans (by congr 1; exact Fin.ext (Nat.lt_one_iff.1 (y 0).isLt))⟩
  refine (congrArg (fun w => k0_pay1 (F := Ideal) w (iblk m c 1 t) (ix3 0 k d)) (word_eq m c t)).trans ?_
  refine ((KernelPayload.payload_eq _ (h (seq t)) _ k d).trans ?_).trans (congrArg (standardized m c) (emb_eq t k d)).symm
  simp only [block_eq]
  rfl

end Cert.KernelValue

end
-- ==== Proof.lean ====
/-
  The proof of `Cert.Claim`. The three frames, and the idealization that rewrites no operation, come first; the value claim
  sets the kernel's result array (Proof/KernelValue.lean) beside the reference's (Proof/RefValue.lean) and joins the two
  element by element by the equation of Proof/Column.lean, whose hypotheses Proof/Precondition.lean reads from `ragged`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_ragged
public import proofs.«01_k».proof.Proof.RefValue
public import proofs.«01_k».proof.Proof.Precondition
public import proofs.«01_k».proof.Proof.KernelValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments alone and ends with every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The reference's result array is the kernel's, on arguments `ragged` holds of. -/
theorem results_eq (m : (ℓ : Loc Cert.KernelIdeal.nD Cert.KernelIdeal.τ Cert.KernelIdeal.sig) → Buf (Elt Ideal) ℓ)
    (c : Dev Cert.KernelIdeal.nD)
    (h : Precondition.Holds (m ((c.tc : Thread Cert.KernelIdeal.nD Cert.KernelIdeal.τ).loc Cert.KernelIdeal.main_arg0))
      (m ((c.tc : Thread Cert.KernelIdeal.nD Cert.KernelIdeal.τ).loc Cert.KernelIdeal.main_arg1))) :
    Cert.ReferenceIdeal.Read.val_main_v31 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = (Cert.KernelIdeal.Gen.dats m 0 c).arrAt 2 Cert.KernelIdeal.cfg0.N := by
  have hv := Precondition.varies _ _ h
  rw [KernelValue.array_eq m c fun b => (hv b 0).le]
  funext i
  obtain ⟨b, t, d, rfl⟩ : ∃ (b : Fin 8) (t : Fin 2048) (d : Fin 1024), i = ix3 b t d := ⟨i 0, i 1, i 2, eq_ix3 i⟩
  exact (RefValue.result_eq _ _ b (hv b d).le t d).trans (Column.standardized_eq (hv b d) _).symm

theorem claim : Cert.Claim :=
  ⟨Cert.Kernel.Gen.facts, Cert.KernelIdeal.Gen.facts, Cert.ReferenceIdeal.Gen.facts, Cert.Pre_ragged.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial, by
    intro m g m' g' hpre hagree
    refine ⟨_, Cert.KernelIdeal.Value.run_blocks m g, ?_⟩
    refine (θ_run Cert.ReferenceIdeal.defs _ _).mono (fun _ h c => ⟨(h c).1.trans ?_, (h c).2⟩)
      (Cert.ReferenceIdeal.Value.run (F := Ideal) m' g')
    refine (Cert.ReferenceIdeal.Read.val_main_v31_eq (F := Ideal) _ _).trans ?_
    rw [(hagree c).1, (hagree c).2]
    exact results_eq m c (hpre c)⟩

end Cert.Proof

end
